-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v64)) (v1 : (c : Dev Cert.KernelIdeal.nD) → Buf (Elt Ideal) ((c.tc : Thread Cert.KernelIdeal.nD Cert.KernelIdeal.τ).loc Cert.KernelIdeal.main_indices)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_indices) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x128 : Shape := ⟨2, ![10000, 128]⟩
abbrev S2x320000 : Shape := ⟨2, ![2, 320000]⟩
abbrev S3x128x128 : Shape := ⟨3, ![3, 128, 128]⟩
abbrev S128 : Shape := ⟨1, ![128]⟩
abbrev S1x320000 : Shape := ⟨2, ![1, 320000]⟩
abbrev S320000 : Shape := ⟨1, ![320000]⟩
abbrev S_ : Shape := ⟨0, ![]⟩
abbrev S10000 : Shape := ⟨1, ![10000]⟩
abbrev S320000x1 : Shape := ⟨2, ![320000, 1]⟩
abbrev S1 : Shape := ⟨1, ![1]⟩
abbrev S1x1 : Shape := ⟨2, ![1, 1]⟩
abbrev S320000x128 : Shape := ⟨2, ![320000, 128]⟩
abbrev S1x128x128 : Shape := ⟨3, ![1, 128, 128]⟩
abbrev S128x128 : Shape := ⟨2, ![128, 128]⟩
abbrev S1x128 : Shape := ⟨2, ![1, 128]⟩
abbrev S1000x128 : Shape := ⟨2, ![1000, 128]⟩
abbrev S5000 : Shape := ⟨1, ![5000]⟩
abbrev S5000x1 : Shape := ⟨2, ![5000, 1]⟩
abbrev S5000x128 : Shape := ⟨2, ![5000, 128]⟩

abbrev nBuf : Space → Nat
  | .hbm => 169
  | .vmem => 12
  | .smem => 0
  | _ => 0

abbrev hbmTy0_0 (i : Nat) : BufTy := match i % 128 with
  | 0 => ⟨S10000x128, .f32⟩
  | 1 => ⟨S2x320000, .i32⟩
  | 2 => ⟨S3x128x128, .f32⟩
  | 3 => ⟨S128, .f32⟩
  | 4 => ⟨S128, .f32⟩
  | 5 => ⟨S1x320000, .i32⟩
  | 6 => ⟨S320000, .i32⟩
  | 7 => ⟨S1x320000, .i32⟩
  | 8 => ⟨S320000, .i32⟩
  | 9 => ⟨S_, .f32⟩
  | 10 => ⟨S320000, .f32⟩
  | 11 => ⟨S_, .f32⟩
  | 12 => ⟨S10000, .f32⟩
  | 13 => ⟨S320000x1, .i32⟩
  | 14 => ⟨S10000, .f32⟩
  | 15 => ⟨S_, .f32⟩
  | 16 => ⟨S10000, .f32⟩
  | 17 => ⟨S10000, .i1⟩
  | 18 => ⟨S_, .f32⟩
  | 19 => ⟨S10000, .f32⟩
  | 20 => ⟨S10000, .f32⟩
  | 21 => ⟨S10000, .f32⟩
  | 22 => ⟨S_, .f32⟩
  | 23 => ⟨S_, .f32⟩
  | 24 => ⟨S10000, .f32⟩
  | 25 => ⟨S10000, .f32⟩
  | 26 => ⟨S_, .i32⟩
  | 27 => ⟨S320000, .i32⟩
  | 28 => ⟨S320000, .i1⟩
  | 29 => ⟨S_, .i32⟩
  | 30 => ⟨S320000, .i32⟩
  | 31 => ⟨S320000, .i32⟩
  | 32 => ⟨S320000, .i32⟩
  | 33 => ⟨S320000x1, .i32⟩
  | 34 => ⟨S320000, .f32⟩
  | 35 => ⟨S320000, .f32⟩
  | 36 => ⟨S_, .i32⟩
  | 37 => ⟨S320000, .i32⟩
  | 38 => ⟨S320000, .i1⟩
  | 39 => ⟨S_, .i32⟩
  | 40 => ⟨S320000, .i32⟩
  | 41 => ⟨S320000, .i32⟩
  | 42 => ⟨S320000, .i32⟩
  | 43 => ⟨S320000x1, .i32⟩
  | 44 => ⟨S320000, .f32⟩
  | 45 => ⟨S320000, .f32⟩
  | 46 => ⟨S320000x1, .f32⟩
  | 47 => ⟨S_, .i32⟩
  | 48 => ⟨S320000, .i32⟩
  | 49 => ⟨S320000, .i1⟩
  | 50 => ⟨S_, .i32⟩
  | 51 => ⟨S320000, .i32⟩
  | 52 => ⟨S320000, .i32⟩
  | 53 => ⟨S320000, .i32⟩
  | 54 => ⟨S320000x1, .i32⟩
  | 55 => ⟨S1, .i32⟩
  | 56 => ⟨S_, .i32⟩
  | 57 => ⟨S320000x1, .i32⟩
  | 58 => ⟨S320000x1, .i1⟩
  | 59 => ⟨S1x1, .i32⟩
  | 60 => ⟨S320000x1, .i32⟩
  | 61 => ⟨S320000x1, .i1⟩
  | 62 => ⟨S320000x1, .i1⟩
  | 63 => ⟨S_, .i1⟩
  | 64 => ⟨S320000, .i1⟩
  | 65 => ⟨S320000x128, .f32⟩
  | 66 => ⟨S320000x128, .i1⟩
  | 67 => ⟨S_, .f32⟩
  | 68 => ⟨S320000x128, .f32⟩
  | 69 => ⟨S320000x128, .f32⟩
  | 70 => ⟨S320000x128, .f32⟩
  | 71 => ⟨S320000x128, .f32⟩
  | 72 => ⟨S_, .f32⟩
  | 73 => ⟨S10000x128, .f32⟩
  | 74 => ⟨S320000x1, .i32⟩
  | 75 => ⟨S10000x128, .f32⟩
  | 76 => ⟨S320000x1, .f32⟩
  | 77 => ⟨S_, .i32⟩
  | 78 => ⟨S320000, .i32⟩
  | 79 => ⟨S320000, .i1⟩
  | 80 => ⟨S_, .i32⟩
  | 81 => ⟨S320000, .i32⟩
  | 82 => ⟨S320000, .i32⟩
  | 83 => ⟨S320000, .i32⟩
  | 84 => ⟨S320000x1, .i32⟩
  | 85 => ⟨S1, .i32⟩
  | 86 => ⟨S_, .i32⟩
  | 87 => ⟨S320000x1, .i32⟩
  | 88 => ⟨S320000x1, .i1⟩
  | 89 => ⟨S1x1, .i32⟩
  | 90 => ⟨S320000x1, .i32⟩
  | 91 => ⟨S320000x1, .i1⟩
  | 92 => ⟨S320000x1, .i1⟩
  | 93 => ⟨S_, .i1⟩
  | 94 => ⟨S320000, .i1⟩
  | 95 => ⟨S320000x128, .f32⟩
  | 96 => ⟨S320000x128, .i1⟩
  | 97 => ⟨S_, .f32⟩
  | 98 => ⟨S320000x128, .f32⟩
  | 99 => ⟨S320000x128, .f32⟩
  | 100 => ⟨S320000x128, .f32⟩
  | 101 => ⟨S320000x128, .f32⟩
  | 102 => ⟨S_, .f32⟩
  | 103 => ⟨S10000x128, .f32⟩
  | 104 => ⟨S320000x1, .i32⟩
  | 105 => ⟨S10000x128, .f32⟩
  | 106 => ⟨S_, .f32⟩
  | 107 => ⟨S10000x128, .f32⟩
  | 108 => ⟨S10000x128, .f32⟩
  | 109 => ⟨S10000x128, .f32⟩
  | 110 => ⟨S1x128x128, .f32⟩
  | 111 => ⟨S128x128, .f32⟩
  | 112 => ⟨S1x128x128, .f32⟩
  | 113 => ⟨S128x128, .f32⟩
  | 114 => ⟨S1x128x128, .f32⟩
  | 115 => ⟨S128x128, .f32⟩
  | 116 => ⟨S1x128, .f32⟩
  | 117 => ⟨S10000x128, .f32⟩
  | 118 => ⟨S_, .f32⟩
  | 119 => ⟨S10000x128, .f32⟩
  | 120 => ⟨S10000x128, .i1⟩
  | 121 => ⟨S_, .f32⟩
  | 122 => ⟨S10000x128, .f32⟩
  | 123 => ⟨S10000x128, .i1⟩
  | 124 => ⟨S_, .f32⟩
  | 125 => ⟨S_, .f32⟩
  | 126 => ⟨S10000x128, .f32⟩
  | 127 => ⟨S10000x128, .f32⟩
  | _ => ⟨S10000x128, .f32⟩

abbrev hbmTy0_1 (i : Nat) : BufTy := match i % 128 with
  | 0 => ⟨S10000x128, .f32⟩
  | 1 => ⟨S_, .f32⟩
  | 2 => ⟨S10000x128, .f32⟩
  | 3 => ⟨S10000x128, .f32⟩
  | 4 => ⟨S10000x128, .f32⟩
  | 5 => ⟨S10000, .f32⟩
  | 6 => ⟨S128, .f32⟩
  | 7 => ⟨S_, .f32⟩
  | 8 => ⟨S_, .f32⟩
  | 9 => ⟨S_, .f32⟩
  | 10 => ⟨S10000, .f32⟩
  | 11 => ⟨S10000, .f32⟩
  | 12 => ⟨S5000, .f32⟩
  | 13 => ⟨S5000, .i32⟩
  | 14 => ⟨S_, .i32⟩
  | 15 => ⟨S5000, .i32⟩
  | 16 => ⟨S5000, .i1⟩
  | 17 => ⟨S_, .i32⟩
  | 18 => ⟨S5000, .i32⟩
  | 19 => ⟨S5000, .i32⟩
  | 20 => ⟨S5000, .i32⟩
  | 21 => ⟨S5000x1, .i32⟩
  | 22 => ⟨S1, .i32⟩
  | 23 => ⟨S_, .i32⟩
  | 24 => ⟨S5000x1, .i32⟩
  | 25 => ⟨S5000x1, .i1⟩
  | 26 => ⟨S1x1, .i32⟩
  | 27 => ⟨S5000x1, .i32⟩
  | 28 => ⟨S5000x1, .i1⟩
  | 29 => ⟨S5000x1, .i1⟩
  | 30 => ⟨S_, .i1⟩
  | 31 => ⟨S5000, .i1⟩
  | 32 => ⟨S5000x128, .f32⟩
  | 33 => ⟨S5000x128, .i1⟩
  | 34 => ⟨S_, .f32⟩
  | 35 => ⟨S5000x128, .f32⟩
  | 36 => ⟨S5000x128, .f32⟩
  | 37 => ⟨S5000, .f32⟩
  | 38 => ⟨S5000x1, .f32⟩
  | 39 => ⟨S5000x128, .f32⟩
  | 40 => ⟨S5000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S1000x128, .f32⟩
  | .local _ .vmem, ⟨5, _⟩ => ⟨S1000x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S1x128, .f32⟩
  | .local _ .vmem, ⟨10, _⟩ => ⟨S1000x128, .f32⟩
  | .local _ .vmem, ⟨11, _⟩ => ⟨S1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_v22 : Ref sig .tc := ⟨.hbm, 37, rfl⟩
abbrev main_v23 : Ref sig .tc := ⟨.hbm, 38, rfl⟩
abbrev main_c_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_c_2 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_3 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_call1_cst : Ref sig .tc := ⟨.hbm, 67, rfl⟩
abbrev main_call1_v15 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_cst_7 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_call2_c : Ref sig .tc := ⟨.hbm, 77, rfl⟩
abbrev main_call2_v0 : Ref sig .tc := ⟨.hbm, 78, rfl⟩
abbrev main_call2_v1 : Ref sig .tc := ⟨.hbm, 79, rfl⟩
abbrev main_call2_c_0 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_v5 : Ref sig .tc := ⟨.hbm, 84, rfl⟩
abbrev main_call2_c_1 : Ref sig .tc := ⟨.hbm, 85, rfl⟩
abbrev main_call2_c_2 : Ref sig .tc := ⟨.hbm, 86, rfl⟩
abbrev main_call2_v6 : Ref sig .tc := ⟨.hbm, 87, rfl⟩
abbrev main_call2_v7 : Ref sig .tc := ⟨.hbm, 88, rfl⟩
abbrev main_call2_v8 : Ref sig .tc := ⟨.hbm, 89, rfl⟩
abbrev main_call2_v9 : Ref sig .tc := ⟨.hbm, 90, rfl⟩
abbrev main_call2_v10 : Ref sig .tc := ⟨.hbm, 91, rfl⟩
abbrev main_call2_v11 : Ref sig .tc := ⟨.hbm, 92, rfl⟩
abbrev main_call2_c_3 : Ref sig .tc := ⟨.hbm, 93, rfl⟩
abbrev main_call2_v12 : Ref sig .tc := ⟨.hbm, 94, rfl⟩
abbrev main_call2_v13 : Ref sig .tc := ⟨.hbm, 95, rfl⟩
abbrev main_call2_v14 : Ref sig .tc := ⟨.hbm, 96, rfl⟩
abbrev main_call2_cst : Ref sig .tc := ⟨.hbm, 97, rfl⟩
abbrev main_call2_v15 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_cst_8 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_cst_9 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_call3_cst : Ref sig .tc := ⟨.hbm, 118, rfl⟩
abbrev main_call3_v0 : Ref sig .tc := ⟨.hbm, 119, rfl⟩
abbrev main_call3_v1 : Ref sig .tc := ⟨.hbm, 120, rfl⟩
abbrev main_call3_cst_0 : Ref sig .tc := ⟨.hbm, 121, rfl⟩
abbrev main_call3_v2 : Ref sig .tc := ⟨.hbm, 122, rfl⟩
abbrev main_call3_v3 : Ref sig .tc := ⟨.hbm, 123, rfl⟩
abbrev main_call3_cst_1 : Ref sig .tc := ⟨.hbm, 124, rfl⟩
abbrev main_call3_call0_v0 : Ref sig .tc := ⟨.hbm, 125, rfl⟩
abbrev main_call3_call0_v1 : Ref sig .tc := ⟨.hbm, 126, rfl⟩
abbrev main_call3_v4 : Ref sig .tc := ⟨.hbm, 127, rfl⟩
abbrev main_call3_v5 : Ref sig .tc := ⟨.hbm, 128, rfl⟩
abbrev main_call3_cst_2 : Ref sig .tc := ⟨.hbm, 129, rfl⟩
abbrev main_call3_v6 : Ref sig .tc := ⟨.hbm, 130, rfl⟩
abbrev main_call3_v7 : Ref sig .tc := ⟨.hbm, 131, rfl⟩
abbrev main_v55 : Ref sig .tc := ⟨.hbm, 132, rfl⟩
abbrev main_v56 : Ref sig .tc := ⟨.hbm, 133, rfl⟩
abbrev main_call4_v0 : Ref sig .tc := ⟨.hbm, 134, rfl⟩
abbrev main_call4_cst : Ref sig .tc := ⟨.hbm, 135, rfl⟩
abbrev main_call4_v1 : Ref sig .tc := ⟨.hbm, 136, rfl⟩
abbrev main_v57 : Ref sig .tc := ⟨.hbm, 137, rfl⟩
abbrev main_v58 : Ref sig .tc := ⟨.hbm, 138, rfl⟩
abbrev main_v59 : Ref sig .tc := ⟨.hbm, 139, rfl⟩
abbrev main_values : Ref sig .tc := ⟨.hbm, 140, rfl⟩
abbrev main_indices : Ref sig .tc := ⟨.hbm, 141, rfl⟩
abbrev main_call5_c : Ref sig .tc := ⟨.hbm, 142, rfl⟩
abbrev main_call5_v0 : Ref sig .tc := ⟨.hbm, 143, rfl⟩
abbrev main_call5_v1 : Ref sig .tc := ⟨.hbm, 144, rfl⟩
abbrev main_call5_c_0 : Ref sig .tc := ⟨.hbm, 145, rfl⟩
abbrev main_call5_v2 : Ref sig .tc := ⟨.hbm, 146, rfl⟩
abbrev main_call5_v3 : Ref sig .tc := ⟨.hbm, 147, rfl⟩
abbrev main_call5_v4 : Ref sig .tc := ⟨.hbm, 148, rfl⟩
abbrev main_call5_v5 : Ref sig .tc := ⟨.hbm, 149, rfl⟩
abbrev main_call5_c_1 : Ref sig .tc := ⟨.hbm, 150, rfl⟩
abbrev main_call5_c_2 : Ref sig .tc := ⟨.hbm, 151, rfl⟩
abbrev main_call5_v6 : Ref sig .tc := ⟨.hbm, 152, rfl⟩
abbrev main_call5_v7 : Ref sig .tc := ⟨.hbm, 153, rfl⟩
abbrev main_call5_v8 : Ref sig .tc := ⟨.hbm, 154, rfl⟩
abbrev main_call5_v9 : Ref sig .tc := ⟨.hbm, 155, rfl⟩
abbrev main_call5_v10 : Ref sig .tc := ⟨.hbm, 156, rfl⟩
abbrev main_call5_v11 : Ref sig .tc := ⟨.hbm, 157, rfl⟩
abbrev main_call5_c_3 : Ref sig .tc := ⟨.hbm, 158, rfl⟩
abbrev main_call5_v12 : Ref sig .tc := ⟨.hbm, 159, rfl⟩
abbrev main_call5_v13 : Ref sig .tc := ⟨.hbm, 160, rfl⟩
abbrev main_call5_v14 : Ref sig .tc := ⟨.hbm, 161, rfl⟩
abbrev main_call5_cst : Ref sig .tc := ⟨.hbm, 162, rfl⟩
abbrev main_call5_v15 : Ref sig .tc := ⟨.hbm, 163, rfl⟩
abbrev main_v60 : Ref sig .tc := ⟨.hbm, 164, rfl⟩
abbrev main_v61 : Ref sig .tc := ⟨.hbm, 165, rfl⟩
abbrev main_v62 : Ref sig .tc := ⟨.hbm, 166, rfl⟩
abbrev main_v63 : Ref sig .tc := ⟨.hbm, 167, rfl⟩
abbrev main_v64 : Ref sig .tc := ⟨.hbm, 168, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S10000x128 : Shape := ⟨2, ![10000, 128]⟩
abbrev S2x320000 : Shape := ⟨2, ![2, 320000]⟩
abbrev S3x128x128 : Shape := ⟨3, ![3, 128, 128]⟩
abbrev S128 : Shape := ⟨1, ![128]⟩
abbrev S1x320000 : Shape := ⟨2, ![1, 320000]⟩
abbrev S320000 : Shape := ⟨1, ![320000]⟩
abbrev S_ : Shape := ⟨0, ![]⟩
abbrev S10000 : Shape := ⟨1, ![10000]⟩
abbrev S320000x1 : Shape := ⟨2, ![320000, 1]⟩
abbrev S1x128x128 : Shape := ⟨3, ![1, 128, 128]⟩
abbrev S128x128 : Shape := ⟨2, ![128, 128]⟩
abbrev S1 : Shape := ⟨1, ![1]⟩
abbrev S1x1 : Shape := ⟨2, ![1, 1]⟩
abbrev S320000x128 : Shape := ⟨2, ![320000, 128]⟩
abbrev S1x128 : Shape := ⟨2, ![1, 128]⟩
abbrev S5000 : Shape := ⟨1, ![5000]⟩
abbrev S5000x1 : Shape := ⟨2, ![5000, 1]⟩
abbrev S5000x128 : Shape := ⟨2, ![5000, 128]⟩

abbrev nBuf : Space → Nat
  | .hbm => 175
  | .vmem => 0
  | .smem => 0
  | _ => 0

abbrev hbmTy0_0 (i : Nat) : BufTy := match i % 128 with
  | 0 => ⟨S10000x128, .f32⟩
  | 1 => ⟨S2x320000, .i32⟩
  | 2 => ⟨S3x128x128, .f32⟩
  | 3 => ⟨S128, .f32⟩
  | 4 => ⟨S128, .f32⟩
  | 5 => ⟨S1x320000, .i32⟩
  | 6 => ⟨S320000, .i32⟩
  | 7 => ⟨S1x320000, .i32⟩
  | 8 => ⟨S320000, .i32⟩
  | 9 => ⟨S_, .f32⟩
  | 10 => ⟨S320000, .f32⟩
  | 11 => ⟨S_, .f32⟩
  | 12 => ⟨S10000, .f32⟩
  | 13 => ⟨S320000x1, .i32⟩
  | 14 => ⟨S10000, .f32⟩
  | 15 => ⟨S_, .f32⟩
  | 16 => ⟨S10000, .f32⟩
  | 17 => ⟨S10000, .i1⟩
  | 18 => ⟨S_, .f32⟩
  | 19 => ⟨S10000, .f32⟩
  | 20 => ⟨S10000, .f32⟩
  | 21 => ⟨S10000, .f32⟩
  | 22 => ⟨S_, .f32⟩
  | 23 => ⟨S_, .f32⟩
  | 24 => ⟨S10000, .f32⟩
  | 25 => ⟨S10000, .f32⟩
  | 26 => ⟨S_, .i32⟩
  | 27 => ⟨S320000, .i32⟩
  | 28 => ⟨S320000, .i1⟩
  | 29 => ⟨S_, .i32⟩
  | 30 => ⟨S320000, .i32⟩
  | 31 => ⟨S320000, .i32⟩
  | 32 => ⟨S320000, .i32⟩
  | 33 => ⟨S320000x1, .i32⟩
  | 34 => ⟨S320000, .f32⟩
  | 35 => ⟨S320000, .f32⟩
  | 36 => ⟨S_, .i32⟩
  | 37 => ⟨S320000, .i32⟩
  | 38 => ⟨S320000, .i1⟩
  | 39 => ⟨S_, .i32⟩
  | 40 => ⟨S320000, .i32⟩
  | 41 => ⟨S320000, .i32⟩
  | 42 => ⟨S320000, .i32⟩
  | 43 => ⟨S320000x1, .i32⟩
  | 44 => ⟨S320000, .f32⟩
  | 45 => ⟨S320000, .f32⟩
  | 46 => ⟨S1x128x128, .f32⟩
  | 47 => ⟨S128x128, .f32⟩
  | 48 => ⟨S10000x128, .f32⟩
  | 49 => ⟨S320000x1, .f32⟩
  | 50 => ⟨S_, .i32⟩
  | 51 => ⟨S320000, .i32⟩
  | 52 => ⟨S320000, .i1⟩
  | 53 => ⟨S_, .i32⟩
  | 54 => ⟨S320000, .i32⟩
  | 55 => ⟨S320000, .i32⟩
  | 56 => ⟨S320000, .i32⟩
  | 57 => ⟨S320000x1, .i32⟩
  | 58 => ⟨S1, .i32⟩
  | 59 => ⟨S_, .i32⟩
  | 60 => ⟨S320000x1, .i32⟩
  | 61 => ⟨S320000x1, .i1⟩
  | 62 => ⟨S1x1, .i32⟩
  | 63 => ⟨S320000x1, .i32⟩
  | 64 => ⟨S320000x1, .i1⟩
  | 65 => ⟨S320000x1, .i1⟩
  | 66 => ⟨S_, .i1⟩
  | 67 => ⟨S320000, .i1⟩
  | 68 => ⟨S320000x128, .f32⟩
  | 69 => ⟨S320000x128, .i1⟩
  | 70 => ⟨S_, .f32⟩
  | 71 => ⟨S320000x128, .f32⟩
  | 72 => ⟨S320000x128, .f32⟩
  | 73 => ⟨S320000x128, .f32⟩
  | 74 => ⟨S320000x128, .f32⟩
  | 75 => ⟨S_, .f32⟩
  | 76 => ⟨S10000x128, .f32⟩
  | 77 => ⟨S320000x1, .i32⟩
  | 78 => ⟨S10000x128, .f32⟩
  | 79 => ⟨S1x128x128, .f32⟩
  | 80 => ⟨S128x128, .f32⟩
  | 81 => ⟨S10000x128, .f32⟩
  | 82 => ⟨S10000x128, .f32⟩
  | 83 => ⟨S320000x1, .f32⟩
  | 84 => ⟨S_, .i32⟩
  | 85 => ⟨S320000, .i32⟩
  | 86 => ⟨S320000, .i1⟩
  | 87 => ⟨S_, .i32⟩
  | 88 => ⟨S320000, .i32⟩
  | 89 => ⟨S320000, .i32⟩
  | 90 => ⟨S320000, .i32⟩
  | 91 => ⟨S320000x1, .i32⟩
  | 92 => ⟨S1, .i32⟩
  | 93 => ⟨S_, .i32⟩
  | 94 => ⟨S320000x1, .i32⟩
  | 95 => ⟨S320000x1, .i1⟩
  | 96 => ⟨S1x1, .i32⟩
  | 97 => ⟨S320000x1, .i32⟩
  | 98 => ⟨S320000x1, .i1⟩
  | 99 => ⟨S320000x1, .i1⟩
  | 100 => ⟨S_, .i1⟩
  | 101 => ⟨S320000, .i1⟩
  | 102 => ⟨S320000x128, .f32⟩
  | 103 => ⟨S320000x128, .i1⟩
  | 104 => ⟨S_, .f32⟩
  | 105 => ⟨S320000x128, .f32⟩
  | 106 => ⟨S320000x128, .f32⟩
  | 107 => ⟨S320000x128, .f32⟩
  | 108 => ⟨S320000x128, .f32⟩
  | 109 => ⟨S_, .f32⟩
  | 110 => ⟨S10000x128, .f32⟩
  | 111 => ⟨S320000x1, .i32⟩
  | 112 => ⟨S10000x128, .f32⟩
  | 113 => ⟨S_, .f32⟩
  | 114 => ⟨S10000x128, .f32⟩
  | 115 => ⟨S10000x128, .f32⟩
  | 116 => ⟨S10000x128, .f32⟩
  | 117 => ⟨S1x128x128, .f32⟩
  | 118 => ⟨S128x128, .f32⟩
  | 119 => ⟨S10000x128, .f32⟩
  | 120 => ⟨S10000x128, .f32⟩
  | 121 => ⟨S1x128, .f32⟩
  | 122 => ⟨S10000x128, .f32⟩
  | 123 => ⟨S10000x128, .f32⟩
  | 124 => ⟨S_, .f32⟩
  | 125 => ⟨S10000x128, .f32⟩
  | 126 => ⟨S10000x128, .i1⟩
  | 127 => ⟨S_, .f32⟩
  | _ => ⟨S10000x128, .f32⟩

abbrev hbmTy0_1 (i : Nat) : BufTy := match i % 128 with
  | 0 => ⟨S10000x128, .f32⟩
  | 1 => ⟨S10000x128, .i1⟩
  | 2 => ⟨S_, .f32⟩
  | 3 => ⟨S_, .f32⟩
  | 4 => ⟨S10000x128, .f32⟩
  | 5 => ⟨S10000x128, .f32⟩
  | 6 => ⟨S10000x128, .f32⟩
  | 7 => ⟨S_, .f32⟩
  | 8 => ⟨S10000x128, .f32⟩
  | 9 => ⟨S10000x128, .f32⟩
  | 10 => ⟨S10000x128, .f32⟩
  | 11 => ⟨S10000, .f32⟩
  | 12 => ⟨S128, .f32⟩
  | 13 => ⟨S_, .f32⟩
  | 14 => ⟨S_, .f32⟩
  | 15 => ⟨S_, .f32⟩
  | 16 => ⟨S10000, .f32⟩
  | 17 => ⟨S10000, .f32⟩
  | 18 => ⟨S5000, .f32⟩
  | 19 => ⟨S5000, .i32⟩
  | 20 => ⟨S_, .i32⟩
  | 21 => ⟨S5000, .i32⟩
  | 22 => ⟨S5000, .i1⟩
  | 23 => ⟨S_, .i32⟩
  | 24 => ⟨S5000, .i32⟩
  | 25 => ⟨S5000, .i32⟩
  | 26 => ⟨S5000, .i32⟩
  | 27 => ⟨S5000x1, .i32⟩
  | 28 => ⟨S1, .i32⟩
  | 29 => ⟨S_, .i32⟩
  | 30 => ⟨S5000x1, .i32⟩
  | 31 => ⟨S5000x1, .i1⟩
  | 32 => ⟨S1x1, .i32⟩
  | 33 => ⟨S5000x1, .i32⟩
  | 34 => ⟨S5000x1, .i1⟩
  | 35 => ⟨S5000x1, .i1⟩
  | 36 => ⟨S_, .i1⟩
  | 37 => ⟨S5000, .i1⟩
  | 38 => ⟨S5000x128, .f32⟩
  | 39 => ⟨S5000x128, .i1⟩
  | 40 => ⟨S_, .f32⟩
  | 41 => ⟨S5000x128, .f32⟩
  | 42 => ⟨S5000x128, .f32⟩
  | 43 => ⟨S5000, .f32⟩
  | 44 => ⟨S5000x1, .f32⟩
  | 45 => ⟨S5000x128, .f32⟩
  | 46 => ⟨S5000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_v22 : Ref sig .tc := ⟨.hbm, 37, rfl⟩
abbrev main_v23 : Ref sig .tc := ⟨.hbm, 38, rfl⟩
abbrev main_c_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_c_1 : Ref sig .tc := ⟨.hbm, 58, rfl⟩
abbrev main_call1_c_2 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_3 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_call1_cst : Ref sig .tc := ⟨.hbm, 70, rfl⟩
abbrev main_call1_v15 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_cst_7 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_call2_c : Ref sig .tc := ⟨.hbm, 84, rfl⟩
abbrev main_call2_v0 : Ref sig .tc := ⟨.hbm, 85, rfl⟩
abbrev main_call2_v1 : Ref sig .tc := ⟨.hbm, 86, rfl⟩
abbrev main_call2_c_0 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_call2_v5 : Ref sig .tc := ⟨.hbm, 91, rfl⟩
abbrev main_call2_c_1 : Ref sig .tc := ⟨.hbm, 92, rfl⟩
abbrev main_call2_c_2 : Ref sig .tc := ⟨.hbm, 93, rfl⟩
abbrev main_call2_v6 : Ref sig .tc := ⟨.hbm, 94, rfl⟩
abbrev main_call2_v7 : Ref sig .tc := ⟨.hbm, 95, rfl⟩
abbrev main_call2_v8 : Ref sig .tc := ⟨.hbm, 96, rfl⟩
abbrev main_call2_v9 : Ref sig .tc := ⟨.hbm, 97, rfl⟩
abbrev main_call2_v10 : Ref sig .tc := ⟨.hbm, 98, rfl⟩
abbrev main_call2_v11 : Ref sig .tc := ⟨.hbm, 99, rfl⟩
abbrev main_call2_c_3 : Ref sig .tc := ⟨.hbm, 100, rfl⟩
abbrev main_call2_v12 : Ref sig .tc := ⟨.hbm, 101, rfl⟩
abbrev main_call2_v13 : Ref sig .tc := ⟨.hbm, 102, rfl⟩
abbrev main_call2_v14 : Ref sig .tc := ⟨.hbm, 103, rfl⟩
abbrev main_call2_cst : Ref sig .tc := ⟨.hbm, 104, rfl⟩
abbrev main_call2_v15 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_cst_8 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_cst_9 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_call3_cst : Ref sig .tc := ⟨.hbm, 124, rfl⟩
abbrev main_call3_v0 : Ref sig .tc := ⟨.hbm, 125, rfl⟩
abbrev main_call3_v1 : Ref sig .tc := ⟨.hbm, 126, rfl⟩
abbrev main_call3_cst_0 : Ref sig .tc := ⟨.hbm, 127, rfl⟩
abbrev main_call3_v2 : Ref sig .tc := ⟨.hbm, 128, rfl⟩
abbrev main_call3_v3 : Ref sig .tc := ⟨.hbm, 129, rfl⟩
abbrev main_call3_cst_1 : Ref sig .tc := ⟨.hbm, 130, rfl⟩
abbrev main_call3_call0_v0 : Ref sig .tc := ⟨.hbm, 131, rfl⟩
abbrev main_call3_call0_v1 : Ref sig .tc := ⟨.hbm, 132, rfl⟩
abbrev main_call3_v4 : Ref sig .tc := ⟨.hbm, 133, rfl⟩
abbrev main_call3_v5 : Ref sig .tc := ⟨.hbm, 134, rfl⟩
abbrev main_call3_cst_2 : Ref sig .tc := ⟨.hbm, 135, rfl⟩
abbrev main_call3_v6 : Ref sig .tc := ⟨.hbm, 136, rfl⟩
abbrev main_call3_v7 : Ref sig .tc := ⟨.hbm, 137, rfl⟩
abbrev main_v61 : Ref sig .tc := ⟨.hbm, 138, rfl⟩
abbrev main_v62 : Ref sig .tc := ⟨.hbm, 139, rfl⟩
abbrev main_call4_v0 : Ref sig .tc := ⟨.hbm, 140, rfl⟩
abbrev main_call4_cst : Ref sig .tc := ⟨.hbm, 141, rfl⟩
abbrev main_call4_v1 : Ref sig .tc := ⟨.hbm, 142, rfl⟩
abbrev main_v63 : Ref sig .tc := ⟨.hbm, 143, rfl⟩
abbrev main_v64 : Ref sig .tc := ⟨.hbm, 144, rfl⟩
abbrev main_v65 : Ref sig .tc := ⟨.hbm, 145, rfl⟩
abbrev main_values : Ref sig .tc := ⟨.hbm, 146, rfl⟩
abbrev main_indices : Ref sig .tc := ⟨.hbm, 147, rfl⟩
abbrev main_call5_c : Ref sig .tc := ⟨.hbm, 148, rfl⟩
abbrev main_call5_v0 : Ref sig .tc := ⟨.hbm, 149, rfl⟩
abbrev main_call5_v1 : Ref sig .tc := ⟨.hbm, 150, rfl⟩
abbrev main_call5_c_0 : Ref sig .tc := ⟨.hbm, 151, rfl⟩
abbrev main_call5_v2 : Ref sig .tc := ⟨.hbm, 152, rfl⟩
abbrev main_call5_v3 : Ref sig .tc := ⟨.hbm, 153, rfl⟩
abbrev main_call5_v4 : Ref sig .tc := ⟨.hbm, 154, rfl⟩
abbrev main_call5_v5 : Ref sig .tc := ⟨.hbm, 155, rfl⟩
abbrev main_call5_c_1 : Ref sig .tc := ⟨.hbm, 156, rfl⟩
abbrev main_call5_c_2 : Ref sig .tc := ⟨.hbm, 157, rfl⟩
abbrev main_call5_v6 : Ref sig .tc := ⟨.hbm, 158, rfl⟩
abbrev main_call5_v7 : Ref sig .tc := ⟨.hbm, 159, rfl⟩
abbrev main_call5_v8 : Ref sig .tc := ⟨.hbm, 160, rfl⟩
abbrev main_call5_v9 : Ref sig .tc := ⟨.hbm, 161, rfl⟩
abbrev main_call5_v10 : Ref sig .tc := ⟨.hbm, 162, rfl⟩
abbrev main_call5_v11 : Ref sig .tc := ⟨.hbm, 163, rfl⟩
abbrev main_call5_c_3 : Ref sig .tc := ⟨.hbm, 164, rfl⟩
abbrev main_call5_v12 : Ref sig .tc := ⟨.hbm, 165, rfl⟩
abbrev main_call5_v13 : Ref sig .tc := ⟨.hbm, 166, rfl⟩
abbrev main_call5_v14 : Ref sig .tc := ⟨.hbm, 167, rfl⟩
abbrev main_call5_cst : Ref sig .tc := ⟨.hbm, 168, rfl⟩
abbrev main_call5_v15 : Ref sig .tc := ⟨.hbm, 169, rfl⟩
abbrev main_v66 : Ref sig .tc := ⟨.hbm, 170, rfl⟩
abbrev main_v67 : Ref sig .tc := ⟨.hbm, 171, rfl⟩
abbrev main_v68 : Ref sig .tc := ⟨.hbm, 172, rfl⟩
abbrev main_v69 : Ref sig .tc := ⟨.hbm, 173, rfl⟩
abbrev main_v70 : Ref sig .tc := ⟨.hbm, 174, rfl⟩

abbrev nD : Nat := 1
abbrev τ : Topo := Topo.v7x

variable {F : FTy → Type} [FloatOps F]
-- ==== Proof.Stages.lean ====
/- The layer as pure functions of arrays: the stages of an order-3 Chebyshev graph convolution with top-k pooling,
   each named once.  The kernel's program and the reference are both read back as these functions. -/
module

public import proofs.«01_k».proof.Proof.Gen.ReferenceIdeal

@[expose] public section

noncomputable section

namespace Cert.Cheb

open Idealize.ShloMosaic Cert.ReferenceIdeal Cert.ReferenceIdeal.Gen

variable {F : FTy → Type} [FloatOps F]

/-! ## The graph's edges and their weights -/

/-- The source node of every edge: row 0 of the edge list. -/
def sources (e : IVec S2x320000 32) : IVec S320000 32 :=
  shapeCast S320000 (extractStridedSlice S1x320000 ![0, 0] e slices_S2x320000_S1x320000_0_0) shapeCasts_S1x320000_S320000

/-- The target node of every edge: row 1 of the edge list. -/
def targets (e : IVec S2x320000 32) : IVec S320000 32 :=
  shapeCast S320000 (extractStridedSlice S1x320000 ![1, 0] e slices_S2x320000_S1x320000_1_0) shapeCasts_S1x320000_S320000

/-- The number of edges out of each node. -/
def degrees (row : IVec S320000 32) : FVec F S10000 .f32 :=
  Host.scatterAdd scatter_S10000_S320000x1_S320000_n_0_0_1
    (broadcastInDim S10000 ![] bcast_S_S10000 (constant S_ .f32 0x00000000#32))
    (broadcastInDim S320000x1 ![0] bcast_S320000_S320000x1_0 row)
    (broadcastInDim S320000 ![] bcast_S_S320000 (constant S_ .f32 0x3F800000#32))

/-- One over the square root of each degree, and zero where the degree is zero. -/
def invSqrt (deg : FVec F S10000 .f32) : FVec F S10000 .f32 :=
  select (cmpf .ogt deg (broadcastInDim S10000 ![] bcast_S_S10000 (constant S_ .f32 0x00000000#32)))
    (Host.rsqrt (maximumf deg (broadcastInDim S10000 ![] bcast_S_S10000 (constant S_ .f32 0x2B8CBCCC#32))))
    (broadcastInDim S10000 ![] bcast_S_S10000 (constant S_ .f32 0x00000000#32))

/-- Node numbers as a column of positions, a negative one counted from the end. -/
def positions (i : IVec S320000 32) : IVec S320000x1 32 :=
  broadcastInDim S320000x1 ![0] bcast_S320000_S320000x1_0
    (select (cmpi .slt i (broadcastInDim S320000 ![] bcast_S_S320000 (constantI S_ 32 0#32)))
      (addi i (broadcastInDim S320000 ![] bcast_S_S320000 (constantI S_ 32 10000#32))) i)

/-- The scaled Laplacian's entry of every edge: minus the product of its two ends' inverse root degrees. -/
def edgeWeights (dinv : FVec F S10000 .f32) (row col : IVec S320000 32) : FVec F S320000 .f32 :=
  mulf (Host.negf (Host.gather gather_S10000_S320000x1_S320000_n_0_n_n_0_1_1 dinv (positions row)))
    (Host.gather gather_S10000_S320000x1_S320000_n_0_n_n_0_1_1 dinv (positions col))

/-! ## The Chebyshev recurrence -/

/-- The node rows at the given positions, one per edge; a position out of range reads the fill value. -/
def rowsAt (x : FVec F S10000x128 .f32) (p : IVec S320000x1 32) : FVec F S320000x128 .f32 :=
  select (broadcastInDim S320000x128 ![0] bcast_S320000_S320000x128_0
      (Host.reduce IntOp.andi
        (andi (cmpi .sge p (broadcastInDim S320000x1 ![] bcast_S_S320000x1 (constantI S_ 32 0#32)))
          (cmpi .sle p (broadcastInDim S320000x1 ![0, 1] bcast_S1x1_S320000x1_0_1
            (broadcastInDim S1x1 ![1] bcast_S1_S1x1_1 (constantI S1 32 9999#32)))))
        (constantI S_ 1 1#1) reducesTo_S320000x1_S320000_d1 h_S_))
    (Host.gather gather_S10000x128_S320000x1_S320000x128_1_0_n_n_0_1_1128 x p)
    (broadcastInDim S320000x128 ![] bcast_S_S320000x128 (constant S_ .f32 0x7FC00000#32))

/-- The scaled Laplacian times the node rows, summed edge by edge: `w` holds the edges' weights as a column, `msg`
    the source rows, `col` the targets. -/
def scatterRows (w : FVec F S320000x1 .f32) (msg : FVec F S320000x128 .f32) (col : IVec S320000 32) :
    FVec F S10000x128 .f32 :=
  Host.scatterAdd scatter_S10000x128_S320000x1_S320000x128_1_0_0_1
    (broadcastInDim S10000x128 ![] bcast_S_S10000x128 (constant S_ .f32 0x00000000#32))
    (broadcastInDim S320000x1 ![0] bcast_S320000_S320000x1_0 col)
    (mulf (broadcastInDim S320000x128 ![0, 1] bcast_S320000x1_S320000x128_0_1 w) msg)

/-- A vector of edge weights as a column. -/
def asColumn (w : FVec F S320000 .f32) : FVec F S320000x1 .f32 :=
  broadcastInDim S320000x1 ![0] bcast_S320000_S320000x1_0 w

/-- The scaled Laplacian applied to the node rows. -/
def laplacian (w : FVec F S320000 .f32) (row col : IVec S320000 32) (x : FVec F S10000x128 .f32) :
    FVec F S10000x128 .f32 :=
  scatterRows (asColumn w) (rowsAt x (positions row)) col

/-- Twice an array less another: the step of the recurrence. -/
def twiceLess (y h : FVec F S10000x128 .f32) : FVec F S10000x128 .f32 :=
  subf (mulf (broadcastInDim S10000x128 ![] bcast_S_S10000x128 (constant S_ .f32 0x40000000#32)) y) h

/-- The edges' weights, from the edge list. -/
def weightsOf (e : IVec S2x320000 32) : FVec F S320000 .f32 :=
  edgeWeights (invSqrt (degrees (sources e))) (sources e) (targets e)

/-- The first Chebyshev term of the node features. -/
def cheb1 (h : FVec F S10000x128 .f32) (e : IVec S2x320000 32) : FVec F S10000x128 .f32 :=
  laplacian (weightsOf e) (sources e) (targets e) h

/-- The second Chebyshev term of the node features. -/
def cheb2 (h : FVec F S10000x128 .f32) (e : IVec S2x320000 32) : FVec F S10000x128 .f32 :=
  twiceLess (laplacian (weightsOf e) (sources e) (targets e) (cheb1 h e)) h

/-! ## The dense stage -/

/-- The three coefficient matrices. -/
def coeff0 (W : FVec F S3x128x128 .f32) : FVec F S128x128 .f32 :=
  shapeCast S128x128 (extractStridedSlice S1x128x128 ![0, 0, 0] W slices_S3x128x128_S1x128x128_0_0_0) shapeCasts_S1x128x128_S128x128
@[inherit_doc coeff0]
def coeff1 (W : FVec F S3x128x128 .f32) : FVec F S128x128 .f32 :=
  shapeCast S128x128 (extractStridedSlice S1x128x128 ![1, 0, 0] W slices_S3x128x128_S1x128x128_1_0_0) shapeCasts_S1x128x128_S128x128
@[inherit_doc coeff0]
def coeff2 (W : FVec F S3x128x128 .f32) : FVec F S128x128 .f32 :=
  shapeCast S128x128 (extractStridedSlice S1x128x128 ![2, 0, 0] W slices_S3x128x128_S1x128x128_2_0_0) shapeCasts_S1x128x128_S128x128

/-- The three terms times their coefficients, added, plus the bias on every row. -/
def dense (h t1 t2 : FVec F S10000x128 .f32) (a0 a1 a2 : FVec F S128x128 .f32) (b : FVec F S128 .f32) :
    FVec F S10000x128 .f32 :=
  addf (addf (addf (Host.dotGeneral dot_S10000x128_S128x128_S10000x128_1_0_0_1_n_n none h a0)
        (Host.dotGeneral dot_S10000x128_S128x128_S10000x128_1_0_0_1_n_n none t1 a1))
      (Host.dotGeneral dot_S10000x128_S128x128_S10000x128_1_0_0_1_n_n none t2 a2))
    (broadcastInDim S10000x128 ![0, 1] bcast_S1x128_S10000x128_0_1 (broadcastInDim S1x128 ![1] bcast_S128_S1x128_1 b))

/-- The convolution's output before its activation. -/
def conv (h : FVec F S10000x128 .f32) (e : IVec S2x320000 32) (W : FVec F S3x128x128 .f32) (b : FVec F S128 .f32) :
    FVec F S10000x128 .f32 :=
  dense h (cheb1 h e) (cheb2 h e) (coeff0 W) (coeff1 W) (coeff2 W) b

/-! ## The activation and the pooling -/

/-- The exponential linear unit: `x` where positive, `exp x - 1` elsewhere. -/
def elu (x : FVec F S10000x128 .f32) : FVec F S10000x128 .f32 :=
  select (cmpf .ogt x (broadcastInDim S10000x128 ![] bcast_S_S10000x128 (constant S_ .f32 0x00000000#32))) x
    (mulf (broadcastInDim S10000x128 ![] bcast_S_S10000x128 (constant S_ .f32 0x3F800000#32))
      (Host.expm1 (select (cmpf .ogt x (broadcastInDim S10000x128 ![] bcast_S_S10000x128 (constant S_ .f32 0x00000000#32)))
        (broadcastInDim S10000x128 ![] bcast_S_S10000x128 (constant S_ .f32 0x00000000#32)) x)))

/-- Each node's score: its row against the pooling vector, over that vector's length. -/
def scores (x : FVec F S10000x128 .f32) (p : FVec F S128 .f32) : FVec F S10000 .f32 :=
  Host.divf (Host.dotGeneral dot_S10000x128_S128_S10000_1_0_0_n_n_n none x p)
    (broadcastInDim S10000 ![] bcast_S_S10000
      (Host.sqrt (Host.reduceAdd (mulf p p) (constant S_ .f32 0x00000000#32) reducesTo_S128_S_d0 h_S_)))

/-- The half of the nodes with the largest scores: the scores, largest first. -/
def topScores (s : FVec F S10000 .f32) : FVec F S5000 .f32 :=
  (Host.topK S5000 0 (FloatOps.cmpfTotal .gt) s sliceFits_S10000_S5000).1

/-- The half of the nodes with the largest scores: their numbers, in the same order. -/
def topNodes (s : FVec F S10000 .f32) : IVec S5000 32 :=
  (Host.topK S5000 0 (FloatOps.cmpfTotal .gt) s sliceFits_S10000_S5000).2

/-- The chosen nodes' numbers as a column of positions, a negative one counted from the end. -/
def chosen (i : IVec S5000 32) : IVec S5000x1 32 :=
  broadcastInDim S5000x1 ![0] bcast_S5000_S5000x1_0
    (select (cmpi .slt i (broadcastInDim S5000 ![] bcast_S_S5000 (constantI S_ 32 0#32)))
      (addi i (broadcastInDim S5000 ![] bcast_S_S5000 (constantI S_ 32 10000#32))) i)

/-- The chosen nodes' rows; a position out of range reads the fill value. -/
def chosenRows (x : FVec F S10000x128 .f32) (p : IVec S5000x1 32) : FVec F S5000x128 .f32 :=
  select (broadcastInDim S5000x128 ![0] bcast_S5000_S5000x128_0
      (Host.reduce IntOp.andi
        (andi (cmpi .sge p (broadcastInDim S5000x1 ![] bcast_S_S5000x1 (constantI S_ 32 0#32)))
          (cmpi .sle p (broadcastInDim S5000x1 ![0, 1] bcast_S1x1_S5000x1_0_1
            (broadcastInDim S1x1 ![1] bcast_S1_S1x1_1 (constantI S1 32 9999#32)))))
        (constantI S_ 1 1#1) reducesTo_S5000x1_S5000_d1 h_S_))
    (Host.gather gather_S10000x128_S5000x1_S5000x128_1_0_n_n_0_1_1128 x p)
    (broadcastInDim S5000x128 ![] bcast_S_S5000x128 (constant S_ .f32 0x7FC00000#32))

/-- Every row times the hyperbolic tangent of its node's score. -/
def gate (x : FVec F S5000x128 .f32) (s : FVec F S5000 .f32) : FVec F S5000x128 .f32 :=
  mulf x (broadcastInDim S5000x128 ![0, 1] bcast_S5000x1_S5000x128_0_1
    (broadcastInDim S5000x1 ![0] bcast_S5000_S5000x1_0 (Host.tanh s)))

/-- The numbers of the nodes kept, from the convolution's output and the pooling vector. -/
def keptNodes (x : FVec F S10000x128 .f32) (p : FVec F S128 .f32) : IVec S5000 32 :=
  topNodes (scores (elu x) p)

/-- The pooled rows, from the convolution's output and the pooling vector. -/
def pooled (x : FVec F S10000x128 .f32) (p : FVec F S128 .f32) : FVec F S5000x128 .f32 :=
  gate (chosenRows (elu x) (chosen (keptNodes x p))) (topScores (scores (elu x) p))

end Cert.Cheb

end
-- ==== Proof.RefValue.lean ====
/- What the reference computes: its two results as the stages of Stages.lean applied to the launch contents of its
   arguments. -/
module

public import proofs.«01_k».proof.Proof.Stages
public import proofs.«01_k».proof.Proof.Gen.ReferenceIdeal.Run

@[expose] public section

set_option maxRecDepth 8192

noncomputable section

namespace Cert.Cheb

open Idealize.ShloMosaic Idealize.ShloMosaic.TcCoe Idealize.ShloMosaic.StableHlo Idealize.SL.Sem
open Cert.ReferenceIdeal Cert.ReferenceIdeal.Gen Cert.ReferenceIdeal.Value

variable {F : FTy → Type} [FloatOps F]

/-- The reference's edge weights. -/
theorem ref_weights (A : Valuation τ sig (Elt F)) :
    res_main_v29 A = weightsOf (A (Proc.devRef .tc main_arg1)) := rfl

/-- The reference's first Chebyshev term. -/
theorem ref_cheb1 (A : Valuation τ sig (Elt F)) :
    res_main_v39 A = cheb1 (A (Proc.devRef .tc main_arg0)) (A (Proc.devRef .tc main_arg1)) := by
  unfold res_main_v39; rw [ref_weights]; rfl

/-- The reference's convolution output. -/
theorem ref_conv (A : Valuation τ sig (Elt F)) :
    res_main_v60 A = conv (A (Proc.devRef .tc main_arg0)) (A (Proc.devRef .tc main_arg1))
      (A (Proc.devRef .tc main_arg2)) (A (Proc.devRef .tc main_arg3)) := by
  unfold res_main_v60; rw [ref_cheb1, ref_weights]; rfl

/-- The reference's activation. -/
theorem ref_elu (A : Valuation τ sig (Elt F)) : res_main_v61 A = elu (res_main_v60 A) := by
  unfold res_main_v61; rfl

/-- The reference's scores. -/
theorem ref_scores (A : Valuation τ sig (Elt F)) :
    res_main_v65 A = scores (elu (res_main_v60 A)) (A (Proc.devRef .tc main_arg4)) := by
  unfold res_main_v65; rw [ref_elu]; rfl

/-- The reference's kept nodes. -/
theorem ref_nodes (A : Valuation τ sig (Elt F)) :
    res_main_indices A = keptNodes (res_main_v60 A) (A (Proc.devRef .tc main_arg4)) := by
  unfold res_main_indices; rw [ref_scores]; rfl

/-- The positions the reference gathers the kept rows at. -/
theorem ref_chosen (A : Valuation τ sig (Elt F)) :
    res_main_call5_v5 A = chosen (keptNodes (res_main_v60 A) (A (Proc.devRef .tc main_arg4))) := by
  unfold res_main_call5_v5; rw [ref_nodes]; rfl

/-- The convolution output at the launch contents of the reference's arguments. -/
abbrev refConv (m : (ℓ : Loc nD τ sig) → Buf (Elt F) ℓ) (c : Dev nD) : FVec F S10000x128 .f32 :=
  conv (m ((c.tc : Thread nD τ).loc main_arg0)) (m ((c.tc : Thread nD τ).loc main_arg1))
    (m ((c.tc : Thread nD τ).loc main_arg2)) (m ((c.tc : Thread nD τ).loc main_arg3))

/-- The reference runs and ends with the pooled rows and the kept nodes of its arguments, those unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v70) = pooled (refConv m c) (m ((c.tc : Thread nD τ).loc main_arg4))
      ∧ r.2.mem ((c.tc : Thread nD τ).loc main_indices) = keptNodes (refConv m c) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ⟨(h c).1.trans ?_, (h c).2.1.trans ?_, (h c).2.2⟩) (Cert.ReferenceIdeal.Value.run m ρ)
  · rw [ref_chosen, ref_elu, ref_scores, ref_conv]; rfl
  · rw [ref_nodes, ref_conv]

end Cert.Cheb

end
-- ==== Proof.KernelHost.lean ====
/- What the kernel's host operations leave: before the region, the Chebyshev terms and the operands the region stages;
   after it, the pooling of what the region wrote. -/
module

public import proofs.«01_k».proof.Proof.Stages
public import proofs.«01_k».proof.Proof.Gen.KernelIdeal.Frame
public import Idealize.ShloMosaic.Lib.StableHlo.RunRead

@[expose] public section

set_option maxRecDepth 8192

noncomputable section

namespace Cert.Cheb

open Idealize.ShloMosaic Idealize.ShloMosaic.TcCoe Idealize.ShloMosaic.StableHlo Idealize.SL.Sem
open Cert.KernelIdeal Cert.KernelIdeal.Gen

variable {F : FTy → Type} [FloatOps F] (A : Valuation τ sig (Elt F))

/-! ## Stage by stage, from any contents `A` -/

/-- The first operations cut the edge list into sources … -/
theorem pre_sources : after hostOps0 A (Proc.devRef .tc main_v1) = sources (A (Proc.devRef .tc main_arg1)) := by
  after_reads_simp; rfl

/-- … and targets, … -/
theorem pre_targets : after hostOps0 A (Proc.devRef .tc main_v3) = targets (A (Proc.devRef .tc main_arg1)) := by
  after_reads_simp; rfl

/-- … and the first two groups leave the inverse root degrees. -/
theorem pre_invSqrt : after hostOps0_1 (after hostOps0 A) (Proc.devRef .tc main_v13)
    = invSqrt (degrees (sources (A (Proc.devRef .tc main_arg1)))) := by
  after_reads_simp
  simp only [TRef.toBuf, TRef.ofBuf, cast_eq]
  rfl

/-- The third group leaves the edges' weights … -/
theorem pre_weights : after hostOps0_2 A (Proc.devRef .tc main_v29)
    = edgeWeights (A (Proc.devRef .tc main_v13)) (A (Proc.devRef .tc main_v1)) (A (Proc.devRef .tc main_v3)) := by
  after_reads_simp; rfl

/-- … and the same as a column. -/
theorem pre_column : after hostOps0_2 A (Proc.devRef .tc main_v30)
    = asColumn (edgeWeights (A (Proc.devRef .tc main_v13)) (A (Proc.devRef .tc main_v1)) (A (Proc.devRef .tc main_v3))) := by
  after_reads_simp; rfl

/-- The fourth gathers the features' rows at the sources. -/
theorem pre_rows1 : after hostOps0_3 A (Proc.devRef .tc main_v31)
    = rowsAt (A (Proc.devRef .tc main_arg0)) (positions (A (Proc.devRef .tc main_v1))) := by
  after_reads_simp
  simp only [TRef.toBuf, TRef.ofBuf, cast_eq]
  rfl

/-- The fifth sums the weighted rows at the targets … -/
theorem pre_scatter1 : after hostOps0_4 A (Proc.devRef .tc main_v36)
    = scatterRows (A (Proc.devRef .tc main_v30)) (A (Proc.devRef .tc main_v31)) (A (Proc.devRef .tc main_v3)) := by
  after_reads_simp; rfl

/-- … and makes the weights a column once more. -/
theorem pre_column2 : after hostOps0_4 A (Proc.devRef .tc main_v37) = asColumn (A (Proc.devRef .tc main_v29)) := by
  after_reads_simp; rfl

/-- The sixth gathers the first Chebyshev term's rows at the sources. -/
theorem pre_rows2 : after hostOps0_5 A (Proc.devRef .tc main_v38)
    = rowsAt (A (Proc.devRef .tc main_v36)) (positions (A (Proc.devRef .tc main_v1))) := by
  after_reads_simp
  simp only [TRef.toBuf, TRef.ofBuf, cast_eq]
  rfl

/-- The seventh sums them at the targets and takes the recurrence's step, … -/
theorem pre_cheb2 : after hostOps0_6 A (Proc.devRef .tc main_v46)
    = twiceLess (scatterRows (A (Proc.devRef .tc main_v37)) (A (Proc.devRef .tc main_v38)) (A (Proc.devRef .tc main_v3)))
       (A (Proc.devRef .tc main_arg0)) := by
  after_reads_simp; rfl

/-- … cuts out the coefficient matrices … -/
theorem pre_coeff0 : after hostOps0_6 A (Proc.devRef .tc main_v48) = coeff0 (A (Proc.devRef .tc main_arg2)) := by
  after_reads_simp; rfl
@[inherit_doc pre_coeff0]
theorem pre_coeff1 : after hostOps0_6 A (Proc.devRef .tc main_v50) = coeff1 (A (Proc.devRef .tc main_arg2)) := by
  after_reads_simp; rfl
@[inherit_doc pre_coeff0]
theorem pre_coeff2 : after hostOps0_6 A (Proc.devRef .tc main_v52) = coeff2 (A (Proc.devRef .tc main_arg2)) := by
  after_reads_simp; rfl

/-- … and lays the bias out as one row. -/
theorem pre_bias : after hostOps0_6 A (Proc.devRef .tc main_v53)
    = shapeCast S1x128 (A (Proc.devRef .tc main_arg3)) shapeCasts_S128_S1x128 := by
  after_reads_simp; rfl

/-! ## The contents the region finds -/

/-- All seven groups, one after another. -/
theorem pre_split : after (List.flatten [hostOps0, hostOps0_1, hostOps0_2, hostOps0_3, hostOps0_4, hostOps0_5, hostOps0_6]) A
    = after hostOps0_6 (after hostOps0_5 (after hostOps0_4 (after hostOps0_3 (after hostOps0_2 (after hostOps0_1 (after hostOps0 A)))))) := by
  simp only [List.flatten_cons, List.flatten_nil, List.append_nil, after_append]

/-- What is left by the first five groups: the arguments, sources, targets, weights and first Chebyshev term. -/
theorem pre_five :
    let B := after hostOps0_4 (after hostOps0_3 (after hostOps0_2 (after hostOps0_1 (after hostOps0 A))))
    B (Proc.devRef .tc main_arg0) = A (Proc.devRef .tc main_arg0)
    ∧ B (Proc.devRef .tc main_v1) = sources (A (Proc.devRef .tc main_arg1))
    ∧ B (Proc.devRef .tc main_v3) = targets (A (Proc.devRef .tc main_arg1))
    ∧ B (Proc.devRef .tc main_v37) = asColumn (weightsOf (A (Proc.devRef .tc main_arg1)))
    ∧ B (Proc.devRef .tc main_v36) = cheb1 (A (Proc.devRef .tc main_arg0)) (A (Proc.devRef .tc main_arg1)) := by
  have hk1 : ∀ B : Valuation τ sig (Elt F), after hostOps0_1 B (Proc.devRef .tc main_v1) = B (Proc.devRef .tc main_v1) :=
    fun B => by after_reads_simp
  have hk3 : ∀ B : Valuation τ sig (Elt F), after hostOps0_1 B (Proc.devRef .tc main_v3) = B (Proc.devRef .tc main_v3) :=
    fun B => by after_reads_simp
  have h1 : after hostOps0_1 (after hostOps0 A) (Proc.devRef .tc main_v1) = sources (A (Proc.devRef .tc main_arg1)) := by
    rw [hk1, pre_sources]
  have h3 : after hostOps0_1 (after hostOps0 A) (Proc.devRef .tc main_v3) = targets (A (Proc.devRef .tc main_arg1)) := by
    rw [hk3, pre_targets]
  have h13 := pre_invSqrt A
  have h0 : after hostOps0_1 (after hostOps0 A) (Proc.devRef .tc main_arg0) = A (Proc.devRef .tc main_arg0) := by
    after_reads_simp
  generalize after hostOps0_1 (after hostOps0 A) = B1 at *
  have g1 : after hostOps0_2 B1 (Proc.devRef .tc main_v1) = B1 (Proc.devRef .tc main_v1) := by after_reads_simp
  have g3 : after hostOps0_2 B1 (Proc.devRef .tc main_v3) = B1 (Proc.devRef .tc main_v3) := by after_reads_simp
  have g0 : after hostOps0_2 B1 (Proc.devRef .tc main_arg0) = B1 (Proc.devRef .tc main_arg0) := by after_reads_simp
  have g29 := pre_weights B1
  have g30 := pre_column B1
  rw [h1] at g1; rw [h3] at g3; rw [h0] at g0; rw [h1, h3, h13] at g29 g30
  generalize after hostOps0_2 B1 = B2 at *
  have k1 : after hostOps0_3 B2 (Proc.devRef .tc main_v1) = B2 (Proc.devRef .tc main_v1) := by after_reads_simp
  have k3 : after hostOps0_3 B2 (Proc.devRef .tc main_v3) = B2 (Proc.devRef .tc main_v3) := by after_reads_simp
  have k0 : after hostOps0_3 B2 (Proc.devRef .tc main_arg0) = B2 (Proc.devRef .tc main_arg0) := by after_reads_simp
  have k29 : after hostOps0_3 B2 (Proc.devRef .tc main_v29) = B2 (Proc.devRef .tc main_v29) := by after_reads_simp
  have k30 : after hostOps0_3 B2 (Proc.devRef .tc main_v30) = B2 (Proc.devRef .tc main_v30) := by after_reads_simp
  have k31 := pre_rows1 B2
  rw [g1] at k1; rw [g3] at k3; rw [g0] at k0; rw [g29] at k29; rw [g30] at k30; rw [g0, g1] at k31
  generalize after hostOps0_3 B2 = B3 at *
  have l1 : after hostOps0_4 B3 (Proc.devRef .tc main_v1) = B3 (Proc.devRef .tc main_v1) := by after_reads_simp
  have l3 : after hostOps0_4 B3 (Proc.devRef .tc main_v3) = B3 (Proc.devRef .tc main_v3) := by after_reads_simp
  have l0 : after hostOps0_4 B3 (Proc.devRef .tc main_arg0) = B3 (Proc.devRef .tc main_arg0) := by after_reads_simp
  have l36 := pre_scatter1 B3
  have l37 := pre_column2 B3
  rw [k30, k31, k3] at l36; rw [k29] at l37
  exact ⟨l0.trans k0, l1.trans k1, l3.trans k3, l37, l36⟩

/-- After all seven groups the two Chebyshev terms stand in their buffers. -/
theorem pre_terms :
    let B := after (List.flatten [hostOps0, hostOps0_1, hostOps0_2, hostOps0_3, hostOps0_4, hostOps0_5, hostOps0_6]) A
    B (Proc.devRef .tc main_v36) = cheb1 (A (Proc.devRef .tc main_arg0)) (A (Proc.devRef .tc main_arg1))
    ∧ B (Proc.devRef .tc main_v46) = cheb2 (A (Proc.devRef .tc main_arg0)) (A (Proc.devRef .tc main_arg1)) := by
  intro B
  have hB : B = _ := pre_split A
  obtain ⟨h0, h1, h3, h37, h36⟩ := pre_five A
  generalize after hostOps0_4 (after hostOps0_3 (after hostOps0_2 (after hostOps0_1 (after hostOps0 A)))) = C at *
  have g0 : after hostOps0_5 C (Proc.devRef .tc main_arg0) = C (Proc.devRef .tc main_arg0) := by after_reads_simp
  have g3 : after hostOps0_5 C (Proc.devRef .tc main_v3) = C (Proc.devRef .tc main_v3) := by after_reads_simp
  have g37 : after hostOps0_5 C (Proc.devRef .tc main_v37) = C (Proc.devRef .tc main_v37) := by after_reads_simp
  have g36 : after hostOps0_6 (after hostOps0_5 C) (Proc.devRef .tc main_v36) = C (Proc.devRef .tc main_v36) := by
    after_reads_simp
  have g46 := pre_cheb2 (after hostOps0_5 C)
  rw [g37, pre_rows2, g3, g0, h37, h36, h3, h1, h0] at g46
  rw [hB]
  exact ⟨g36.trans h36, g46⟩

/-- After all seven groups the coefficients and the bias stand in theirs. -/
theorem pre_operands :
    let B := after (List.flatten [hostOps0, hostOps0_1, hostOps0_2, hostOps0_3, hostOps0_4, hostOps0_5, hostOps0_6]) A
    B (Proc.devRef .tc main_v48) = coeff0 (A (Proc.devRef .tc main_arg2))
    ∧ B (Proc.devRef .tc main_v50) = coeff1 (A (Proc.devRef .tc main_arg2))
    ∧ B (Proc.devRef .tc main_v52) = coeff2 (A (Proc.devRef .tc main_arg2))
    ∧ B (Proc.devRef .tc main_v53) = shapeCast S1x128 (A (Proc.devRef .tc main_arg3)) shapeCasts_S128_S1x128 := by
  intro B
  have hB : B = _ := pre_split A
  have h2 : after hostOps0_5 (after hostOps0_4 (after hostOps0_3 (after hostOps0_2 (after hostOps0_1 (after hostOps0 A)))))
      (Proc.devRef .tc main_arg2) = A (Proc.devRef .tc main_arg2) := by after_reads_simp
  have h3 : after hostOps0_5 (after hostOps0_4 (after hostOps0_3 (after hostOps0_2 (after hostOps0_1 (after hostOps0 A)))))
      (Proc.devRef .tc main_arg3) = A (Proc.devRef .tc main_arg3) := by after_reads_simp
  rw [hB, pre_coeff0, pre_coeff1, pre_coeff2, pre_bias, h2, h3]
  exact ⟨rfl, rfl, rfl, rfl⟩

/-! ## After the region -/

/-- The first group is the activation. -/
theorem post_elu : after hostOps1 A (Proc.devRef .tc main_v55) = elu (A (Proc.devRef .tc main_v54)) := by
  after_reads_simp
  simp only [TRef.toBuf, TRef.ofBuf, cast_eq]
  rfl

/-- The next three leave the largest scores … -/
theorem post_top : after hostOps1_3 (after hostOps1_2 (after hostOps1_1 A)) (Proc.devRef .tc main_values)
    = topScores (scores (A (Proc.devRef .tc main_v55)) (A (Proc.devRef .tc main_arg4))) := by
  after_reads_simp
  simp only [TRef.toBuf, TRef.ofBuf, cast_eq]
  rfl

/-- … and the nodes that have them. -/
theorem post_nodes : after hostOps1_3 (after hostOps1_2 (after hostOps1_1 A)) (Proc.devRef .tc main_indices)
    = topNodes (scores (A (Proc.devRef .tc main_v55)) (A (Proc.devRef .tc main_arg4))) := by
  after_reads_simp
  simp only [TRef.toBuf, TRef.ofBuf, cast_eq]
  rfl

/-- The fifth gathers those nodes' rows. -/
theorem post_rows : after hostOps1_4 A (Proc.devRef .tc main_v60)
    = chosenRows (A (Proc.devRef .tc main_v55)) (chosen (A (Proc.devRef .tc main_indices))) := by
  after_reads_simp
  simp only [TRef.toBuf, TRef.ofBuf, cast_eq]
  rfl

/-- The last scales them by their scores. -/
theorem post_gate : after hostOps1_5 A (Proc.devRef .tc main_v64)
    = gate (A (Proc.devRef .tc main_v60)) (A (Proc.devRef .tc main_values)) := by
  after_reads_simp; rfl

/-- The host operations after the region leave the pooled rows and the kept nodes of what it wrote. -/
theorem post_results :
    let B := after (List.flatten [hostOps1, hostOps1_1, hostOps1_2, hostOps1_3, hostOps1_4, hostOps1_5]) A
    B (Proc.devRef .tc main_v64) = pooled (A (Proc.devRef .tc main_v54)) (A (Proc.devRef .tc main_arg4))
    ∧ B (Proc.devRef .tc main_indices) = keptNodes (A (Proc.devRef .tc main_v54)) (A (Proc.devRef .tc main_arg4)) := by
  intro B
  have hB : B = after hostOps1_5 (after hostOps1_4 (after hostOps1_3 (after hostOps1_2 (after hostOps1_1 (after hostOps1 A))))) := by
    simp only [B, List.flatten_cons, List.flatten_nil, List.append_nil, after_append]
  clear_value B; subst hB
  have h4 : after hostOps1 A (Proc.devRef .tc main_arg4) = A (Proc.devRef .tc main_arg4) := by after_reads_simp
  have h55 := post_elu A
  generalize after hostOps1 A = C at *
  have g55 : after hostOps1_3 (after hostOps1_2 (after hostOps1_1 C)) (Proc.devRef .tc main_v55) = C (Proc.devRef .tc main_v55) := by
    after_reads_simp
  have gv := post_top C
  have gi := post_nodes C
  generalize after hostOps1_3 (after hostOps1_2 (after hostOps1_1 C)) = D at *
  have kv : after hostOps1_4 D (Proc.devRef .tc main_values) = D (Proc.devRef .tc main_values) := by after_reads_simp
  have ki : after hostOps1_5 (after hostOps1_4 D) (Proc.devRef .tc main_indices) = D (Proc.devRef .tc main_indices) := by
    after_reads_simp
  rw [post_gate, post_rows, kv, ki, gv, gi, g55, h55, h4]
  exact ⟨rfl, rfl⟩

end Cert.Cheb

end
-- ==== Proof.Dense.lean ====
/- The region: what one grid point stores is a block of 1000 rows of the dense stage, and the ten blocks are the whole
   array. -/
module

public import proofs.«01_k».proof.Proof.KernelHost
public import Idealize.ShloMosaic.Lib.Pipeline.ValueKit

@[expose] public section

set_option maxRecDepth 16384

noncomputable section

namespace Cert.Cheb

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- Every window's block index at every point: the row blocks follow the point, the rest stay put. -/
theorem blockIdx : ∀ t : Fin cfg0.N,
    win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] :=
  (by decide +kernel : ∀ t : Fin grid0.N, _)

/-- The dense stage over the arrays the region finds, its bias one row. -/
def denseFound (h t1 t2 : FVec Ideal S10000x128 .f32) (a0 a1 a2 : FVec Ideal S128x128 .f32) (b : FVec Ideal S1x128 .f32) :
    FVec Ideal S10000x128 .f32 :=
  addf (addf (addf (Host.dotGeneral Cert.ReferenceIdeal.dot_S10000x128_S128x128_S10000x128_1_0_0_1_n_n none h a0)
        (Host.dotGeneral Cert.ReferenceIdeal.dot_S10000x128_S128x128_S10000x128_1_0_0_1_n_n none t1 a1))
      (Host.dotGeneral Cert.ReferenceIdeal.dot_S10000x128_S128x128_S10000x128_1_0_0_1_n_n none t2 a2))
    (broadcastInDim S10000x128 ![0, 1] Cert.ReferenceIdeal.Gen.bcast_S1x128_S10000x128_0_1 b)

/-- What the body stores at index `y` of point `t`'s block is the dense stage at the array index where `y` lies. -/
theorem point (c : Dev nD) (t : Fin cfg0.N) (y) :
    k0_pay1 (F := Ideal) (iblk m c 0 t) (iblk m c 3 t) (iblk m c 1 t) (iblk m c 4 t) (iblk m c 2 t) (iblk m c 5 t) (iblk m c 6 t) y
    = denseFound (V m c main_arg0) (V m c main_v36) (V m c main_v46) (V m c main_v48) (V m c main_v50) (V m c main_v52)
        (V m c main_v53) (((cfg0.win 7).blk t).view.emb y) := by
  have hidx := blockIdx t
  pointwise [k0_pay1, denseFound]
  unfold iblk
  generalize V m c = U
  blk_point [hidx]

/-- After the region its output array is the dense stage of the arrays it found. -/
theorem region_array (c : Dev nD) : (dats m 0 c).arrAt 7 (cfgs 0).N
    = denseFound (V m c main_arg0) (V m c main_v36) (V m c main_v46) (V m c main_v48) (V m c main_v50) (V m c main_v52)
        (V m c main_v53) := by
  refine (dats m 0 c).arrAt_eq_of_covers 7 _ (by decide +kernel) fun t _ y => ?_
  blk_simp
  rw [after0_7]; frame_out
  exact point m c t y

end Cert.Cheb

end
-- ==== Proof.KernelValue.lean ====
/- What the kernel computes: its two results as the same functions of its arguments that the reference's are. -/
module

public import proofs.«01_k».proof.Proof.Dense

@[expose] public section

set_option maxRecDepth 16384

noncomputable section

namespace Cert.Cheb

open Idealize.ShloMosaic Idealize.ShloMosaic.TcCoe Idealize.ShloMosaic.StableHlo Idealize.SL.Sem
open Cert.KernelIdeal Cert.KernelIdeal.Gen

/-- A bias laid out as one row by a reshape is the bias laid out as one row by a broadcast. -/
theorem bias_row (b : FVec Ideal S128 .f32) :
    shapeCast S1x128 b shapeCasts_S128_S1x128 = broadcastInDim S1x128 ![1] Cert.ReferenceIdeal.Gen.bcast_S128_S1x128_1 b := by
  funext i
  pointwise
  blk_ext

/-- So the dense stage over a reshaped bias is the dense stage. -/
theorem denseFound_eq (h t1 t2 : FVec Ideal S10000x128 .f32) (a0 a1 a2 : FVec Ideal S128x128 .f32) (b : FVec Ideal S128 .f32) :
    denseFound h t1 t2 a0 a1 a2 (shapeCast S1x128 b shapeCasts_S128_S1x128) = dense h t1 t2 a0 a1 a2 b := by
  rw [bias_row]; rfl

variable (m : (ℓ : Loc nD τ sig) → Buf (Elt Ideal) ℓ) (ρ : Dev nD → PrngReg)

/-- The convolution output at the launch contents of the kernel's arguments. -/
abbrev kernelConv (c : Dev nD) : FVec Ideal S10000x128 .f32 :=
  conv (m ((c.tc : Thread nD τ).loc main_arg0)) (m ((c.tc : Thread nD τ).loc main_arg1))
    (m ((c.tc : Thread nD τ).loc main_arg2)) (m ((c.tc : Thread nD τ).loc main_arg3))

/-- The region leaves the convolution's output. -/
theorem region_conv (c : Dev nD) : (dats m 0 c).arrAt 7 (cfgs 0).N = kernelConv m c := by
  obtain ⟨h36, h46⟩ := pre_terms (fun b => m (c, b))
  obtain ⟨h48, h50, h52, h53⟩ := pre_operands (fun b => m (c, b))
  have e36 : V m c main_v36 = _ := h36
  have e46 : V m c main_v46 = _ := h46
  have e48 : V m c main_v48 = _ := h48
  have e50 : V m c main_v50 = _ := h50
  have e52 : V m c main_v52 = _ := h52
  have e53 : V m c main_v53 = _ := h53
  rw [region_array, e36, e46, e48, e50, e52, e53, denseFound_eq, V_main_arg0]
  rfl

/-- What the operations after the region start from: the launch's contents, what came before, the region's arrays. -/
abbrev afterRegion (c : Dev nD) : Valuation τ sig (Elt Ideal) :=
  Pipeline.withArrays (cfgs 0).spec c (V0 m c) fun w => (dats m 0 c).arrAt w (cfgs 0).N

/-- There the region's output array holds the convolution's output … -/
theorem afterRegion_out (c : Dev nD) : afterRegion m c (Proc.devRef .tc main_v54) = kernelConv m c :=
  (Pipeline.withArrays_arr (cfgs 0).spec launch0.win.arr_inj c (V0 m c) _ 7).trans (region_conv m c)

/-- … and the pooling vector is as launched. -/
theorem afterRegion_arg4 (c : Dev nD) :
    afterRegion m c (Proc.devRef .tc main_arg4) = m ((c.tc : Thread nD τ).loc main_arg4) :=
  (Pipeline.withArrays_of_ne _ c (V0 m c) _ main_arg4 (by exact (by decide : ∀ w, Pipeline.arrRef spec0 w ≠ main_arg4))).trans
    (V_main_arg4 m c)

/-- The kernel runs and ends with the pooled rows and the kept nodes of its arguments, those unchanged. -/
theorem kernel_run :
    θ_run defs (onTc (τ := τ) (main (F := Ideal))) ⟨m, fun _ => 0, ρ⟩ fun r => ∀ c : Dev nD,
      r.2.mem ((c.tc : Thread nD τ).loc main_v64) = pooled (kernelConv m c) (m ((c.tc : Thread nD τ).loc main_arg4))
      ∧ r.2.mem ((c.tc : Thread nD τ).loc main_indices) = keptNodes (kernelConv m c) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ?_) (run_main m ρ)
  have rest := fun b h1 h2 => (h c).2 b (Pipeline.mem_restRefs_of b h1 h2)
  obtain ⟨p64, pidx⟩ := post_results (afterRegion m c)
  rw [afterRegion_out, afterRegion_arg4] at p64 pidx
  exact ⟨(rest main_v64 (by decide) (by decide)).trans p64,
    (rest main_indices (by decide) (by decide)).trans pidx,
    ((h c).1 0).trans (((dats m 0 c).arrAt_in 0 rfl _).trans ((A_eq m c 0).trans (V_main_arg0 m c))),
    (rest main_arg1 (by decide) (by decide)).trans (W_main_arg1 m (dats m) c),
    (rest main_arg2 (by decide) (by decide)).trans (W_main_arg2 m (dats m) c),
    (rest main_arg3 (by decide) (by decide)).trans (W_main_arg3 m (dats m) c),
    (rest main_arg4 (by decide) (by decide)).trans (W_main_arg4 m (dats m) c)⟩

end Cert.Cheb

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RefValue
public import proofs.«01_k».proof.Proof.KernelValue
public import Idealize.ShloMosaic.Adequacy
public import Idealize.ShloMosaic.Init

@[expose] public section

noncomputable section

namespace Cert.Proof

open Idealize.ShloMosaic Idealize.SL.Sem

/-- At exact arithmetic the kernel and the reference, from the same arguments, end with the same pooled rows and the
    same kept nodes: both are the same functions of the arguments. -/
theorem algebraic : Cert.algebraic_KernelIdeal_ReferenceIdeal := by
  intro m g m' g' _ hagree
  refine ⟨_, _, Cert.Cheb.kernel_run m g, ?_⟩
  refine (θ_run _ _ _).mono (fun _ h c => ?_) (Cert.Cheb.ref_run m' g')
  have hc := h c
  obtain ⟨e0, e1, e2, e3, e4⟩ := hagree c
  refine ⟨hc.1.trans ?_, hc.2.1.trans ?_, hc.2.2⟩ <;>
    simp only [Cert.Cheb.refConv, Cert.Cheb.kernelConv, e0, e1, e2, e3, e4]

/-- The reference runs, its arguments end unchanged, and it declares no semaphore, so every counter is at zero. -/
theorem reference_frame : Cert.quiescent_ReferenceIdeal := fun m ρ _ =>
  (θ_run _ _ _).mono (fun r h => ⟨fun c => (h c).2.2, sem_eq_zero_of_no_sems (by decide) r.2⟩) (Cert.Cheb.ref_run m ρ)

/-- Every claim about the kernel: it, its idealization and the reference run, end with their arguments unchanged and every
    semaphore at zero; the idealization is the kernel's own text; and its results are the reference's. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  reference_frame, trivial, algebraic⟩

end Cert.Proof

end
